-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10x128x4000x5 : Shape := ⟨4, ![10, 128, 4000, 5]⟩
abbrev S10x128x4000 : Shape := ⟨3, ![10, 128, 4000]⟩
abbrev S10x5x4000x128 : Shape := ⟨4, ![10, 5, 4000, 128]⟩
abbrev S10x4000x128 : Shape := ⟨3, ![10, 4000, 128]⟩
abbrev S5x4000x128 : Shape := ⟨3, ![5, 4000, 128]⟩
abbrev S10x5x400x128 : Shape := ⟨4, ![10, 5, 400, 128]⟩
abbrev S10x400x128 : Shape := ⟨3, ![10, 400, 128]⟩
abbrev S5x400x128 : Shape := ⟨3, ![5, 400, 128]⟩
abbrev S1x1x8x128 : Shape := ⟨4, ![1, 1, 8, 128]⟩
abbrev S8x128 : Shape := ⟨2, ![8, 128]⟩
abbrev S1x8x128 : Shape := ⟨3, ![1, 8, 128]⟩
abbrev S128x4000x5 : Shape := ⟨3, ![128, 4000, 5]⟩

abbrev nBuf : Space → Nat
  | .hbm => 6
  | .vmem => 6
  | .smem => 0
  | _ => 0

abbrev bufTy : (tb : Table) → Fin (tcTables nBuf tb) → BufTy
  | .hbm, ⟨0, _⟩ => ⟨S10x128x4000x5, .f32⟩
  | .hbm, ⟨1, _⟩ => ⟨S10x128x4000, .f32⟩
  | .hbm, ⟨2, _⟩ => ⟨S10x5x4000x128, .f32⟩
  | .hbm, ⟨3, _⟩ => ⟨S10x4000x128, .f32⟩
  | .hbm, ⟨4, _⟩ => ⟨S5x4000x128, .f32⟩
  | .hbm, ⟨5, _⟩ => ⟨S128x4000x5, .f32⟩
  | .local _ .vmem, ⟨0, _⟩ => ⟨S10x5x400x128, .f32⟩
  | .local _ .vmem, ⟨1, _⟩ => ⟨S10x5x400x128, .f32⟩
  | .local _ .vmem, ⟨2, _⟩ => ⟨S10x400x128, .f32⟩
  | .local _ .vmem, ⟨3, _⟩ => ⟨S10x400x128, .f32⟩
  | .local _ .vmem, ⟨4, _⟩ => ⟨S5x400x128, .f32⟩
  | .local _ .vmem, ⟨5, _⟩ => ⟨S5x400x128, .f32⟩
  | _, _ => ⟨S10x128x4000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S10x5x400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10x400x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5x400x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S10x128x4000x5 : Shape := ⟨4, ![10, 128, 4000, 5]⟩
abbrev S10x128x4000 : Shape := ⟨3, ![10, 128, 4000]⟩
abbrev S_ : Shape := ⟨0, ![]⟩
abbrev S10x128x4000x1 : Shape := ⟨4, ![10, 128, 4000, 1]⟩
abbrev S1x1x1x5 : Shape := ⟨4, ![1, 1, 1, 5]⟩
abbrev S128x4000x5 : Shape := ⟨3, ![128, 4000, 5]⟩

abbrev nBuf : Space → Nat
  | .hbm => 20
  | .vmem => 0
  | .smem => 0
  | _ => 0

abbrev bufTy : (tb : Table) → Fin (tcTables nBuf tb) → BufTy
  | .hbm, ⟨0, _⟩ => ⟨S10x128x4000x5, .f32⟩
  | .hbm, ⟨1, _⟩ => ⟨S10x128x4000, .f32⟩
  | .hbm, ⟨2, _⟩ => ⟨S10x128x4000x5, .i32⟩
  | .hbm, ⟨3, _⟩ => ⟨S_, .f32⟩
  | .hbm, ⟨4, _⟩ => ⟨S_, .i32⟩
  | .hbm, ⟨5, _⟩ => ⟨S10x128x4000, .f32⟩
  | .hbm, ⟨6, _⟩ => ⟨S10x128x4000, .i32⟩
  | .hbm, ⟨7, _⟩ => ⟨S_, .f32⟩
  | .hbm, ⟨8, _⟩ => ⟨S10x128x4000, .f32⟩
  | .hbm, ⟨9, _⟩ => ⟨S10x128x4000, .f32⟩
  | .hbm, ⟨10, _⟩ => ⟨S_, .f32⟩
  | .hbm, ⟨11, _⟩ => ⟨S10x128x4000, .f32⟩
  | .hbm, ⟨12, _⟩ => ⟨S10x128x4000, .f32⟩
  | .hbm, ⟨13, _⟩ => ⟨S10x128x4000x1, .i32⟩
  | .hbm, ⟨14, _⟩ => ⟨S1x1x1x5, .i32⟩
  | .hbm, ⟨15, _⟩ => ⟨S10x128x4000x5, .i32⟩
  | .hbm, ⟨16, _⟩ => ⟨S10x128x4000x5, .i32⟩
  | .hbm, ⟨17, _⟩ => ⟨S10x128x4000x5, .i1⟩
  | .hbm, ⟨18, _⟩ => ⟨S10x128x4000x5, .f32⟩
  | .hbm, ⟨19, _⟩ => ⟨S128x4000x5, .f32⟩
  | _, _ => ⟨S10x128x4000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_cst : Ref sig .tc := ⟨.hbm, 3, rfl⟩
abbrev main_call0_c : Ref sig .tc := ⟨.hbm, 4, rfl⟩
abbrev main_call0_v1_0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_call1_v0 : Ref sig .tc := ⟨.hbm, 13, rfl⟩
abbrev main_call1_v1 : Ref sig .tc := ⟨.hbm, 14, rfl⟩
abbrev main_call1_v2 : Ref sig .tc := ⟨.hbm, 15, rfl⟩
abbrev main_call1_v3 : Ref sig .tc := ⟨.hbm, 16, rfl⟩
abbrev main_call1_v4 : Ref sig .tc := ⟨.hbm, 17, rfl⟩
abbrev main_v5 : Ref sig .tc := ⟨.hbm, 18, rfl⟩
abbrev main_v6 : Ref sig .tc := ⟨.hbm, 19, rfl⟩

abbrev nD : Nat := 1
abbrev τ : Topo := Topo.v7x

variable {F : FTy → Type} [FloatOps F]
-- ==== Proof.Vote.lean ====
/-
  One vote, over the extended reals: five class scores, and which class gets the vote.

  * `Votes x c`: the score of class `c` is the greatest, and every earlier class is strictly below it.
  * `pickMask_iff`: the five masks that the kernel makes out of running maxima say exactly this.
  * `argmax_fold`: the host's fold of (score, index) pairs by "greater score, else smaller index" returns an index
    `k` with `Votes x k`, in whatever order the pairs come.
  * `votes_unique`: at most one class gets the vote.
-/
module

public import Idealize.ShloMosaic.PureOps.Ideal.Laws

@[expose] public section

noncomputable section

open Idealize.ShloMosaic

namespace Cert.Vote

/-- Class `c` gets the vote: its score is the greatest, and every earlier class scores strictly less. -/
def Votes (x : Fin 5 → EReal) (c : Fin 5) : Prop := (∀ j, x j ≤ x c) ∧ ∀ j, j < c → x j < x c

/-- At most one class gets the vote. -/
theorem votes_unique {x : Fin 5 → EReal} {c d : Fin 5} (hc : Votes x c) (hd : Votes x d) : c = d := by
  rcases lt_trichotomy c d with h | h | h
  · exact absurd (hc.1 d) (not_le.2 (hd.2 c h))
  · exact h
  · exact absurd (hd.1 c) (not_le.2 (hc.2 d h))

/-- The greatest of the five scores, as the kernel's chain of maxima. -/
def top (x : Fin 5 → EReal) : EReal := max (max (max (max (x 0) (x 1)) (x 2)) (x 3)) (x 4)

/-- The kernel's mask of class `c`: the score equals the greatest and the running maximum of the earlier scores is below
    it; for the first class only the former is tested, for the last only the latter. -/
def pickMask (x : Fin 5 → EReal) : Fin 5 → BitVec 1
  | 0 => Ideal.cmp .oeq (x 0) (top x)
  | 1 => IntOp.andi (Ideal.cmp .oeq (x 1) (top x)) (Ideal.cmp .olt (x 0) (top x))
  | 2 => IntOp.andi (Ideal.cmp .oeq (x 2) (top x)) (Ideal.cmp .olt (max (x 0) (x 1)) (top x))
  | 3 => IntOp.andi (Ideal.cmp .oeq (x 3) (top x)) (Ideal.cmp .olt (max (max (x 0) (x 1)) (x 2)) (top x))
  | 4 => Ideal.cmp .olt (max (max (max (x 0) (x 1)) (x 2)) (x 3)) (top x)

/-- The greatest score bounds each score, and is the score of the class that gets the vote. -/
theorem le_top (x : Fin 5 → EReal) (j : Fin 5) : x j ≤ top x := by
  unfold top; fin_cases j <;> simp

theorem top_le {x : Fin 5 → EReal} {a : EReal} (h : ∀ j, x j ≤ a) : top x ≤ a := by
  unfold top; simp [h]

theorem votes_iff_top (x : Fin 5 → EReal) (c : Fin 5) : Votes x c ↔ x c = top x ∧ ∀ j, j < c → x j < top x := by
  constructor
  · intro h
    have e : x c = top x := le_antisymm (le_top x c) (top_le h.1)
    exact ⟨e, fun j hj => e ▸ h.2 j hj⟩
  · rintro ⟨e, h⟩
    exact ⟨fun j => e ▸ le_top x j, fun j hj => e ▸ h j hj⟩

theorem ofBool_eq_one (b : Bool) : BitVec.ofBool b = 1#1 ↔ b = true := by cases b <;> decide

theorem andi_eq_one (a b : BitVec 1) : IntOp.andi a b = 1#1 ↔ a = 1#1 ∧ b = 1#1 := by
  revert a b; decide

theorem ori_eq_one (a b : BitVec 1) : IntOp.ori a b = 1#1 ↔ a = 1#1 ∨ b = 1#1 := by
  revert a b; decide

theorem cmp_oeq (a b : EReal) : Ideal.cmp .oeq a b = 1#1 ↔ a = b := by simp [Ideal.cmp, ofBool_eq_one]
theorem cmp_olt (a b : EReal) : Ideal.cmp .olt a b = 1#1 ↔ a < b := by simp [Ideal.cmp, ofBool_eq_one]
theorem cmp_ogt (a b : EReal) : Ideal.cmp .ogt a b = 1#1 ↔ b < a := by simp [Ideal.cmp, ofBool_eq_one]
theorem cmp_une (a b : EReal) : Ideal.cmp .une a b = 1#1 ↔ a ≠ b := by simp [Ideal.cmp, ofBool_eq_one]

/-- The kernel's masks pick the class that gets the vote. -/
theorem pickMask_iff (x : Fin 5 → EReal) (c : Fin 5) : pickMask x c = 1#1 ↔ Votes x c := by
  rw [votes_iff_top]
  match c with
  | 0 => simp [pickMask, cmp_oeq]
  | 1 => simp [pickMask, cmp_oeq, cmp_olt, andi_eq_one, Fin.forall_fin_succ]
  | 2 => simp [pickMask, cmp_oeq, cmp_olt, andi_eq_one, Fin.forall_fin_succ]
  | 3 => simp [pickMask, cmp_oeq, cmp_olt, andi_eq_one, Fin.forall_fin_succ, and_assoc]
  | 4 =>
    have h4 : (∀ j : Fin 5, j < 4 → x j < top x) → x 4 = top x := by
      intro h
      have e : top x = max (max (max (max (x 0) (x 1)) (x 2)) (x 3)) (x 4) := rfl
      rcases le_total (max (max (max (x 0) (x 1)) (x 2)) (x 3)) (x 4) with h' | h'
      · rw [e, max_eq_right h']
      · rw [max_eq_left h'] at e
        have : max (max (max (x 0) (x 1)) (x 2)) (x 3) < top x := by
          simp only [max_lt_iff]
          exact ⟨⟨⟨h 0 (by decide), h 1 (by decide)⟩, h 2 (by decide)⟩, h 3 (by decide)⟩
        exact absurd (e ▸ this) (lt_irrefl _)
    refine Iff.trans ?_ (and_iff_right_of_imp h4).symm
    simp [pickMask, cmp_olt, Fin.forall_fin_succ, and_assoc]

open Classical in
/-- What one expert adds to class `c`: its weight, one plus a thousandth of its noise, if `c` is the class that it votes for,
    else nothing. -/
def ballot (x : Fin 5 → EReal) (n : EReal) (c : Fin 5) : EReal :=
  if Votes x c then Ideal.ofBits .f32 0x3F800000#32 + n * Ideal.ofBits .f32 0x3A83126F#32 else 0

/-- A selection between the weight and zero by a bit that says whether `c` gets the vote is the ballot. -/
theorem select_ballot {x : Fin 5 → EReal} {c : Fin 5} {b : BitVec 1} (hb : b = 1#1 ↔ Votes x c) (n z : EReal) (hz : z = 0) :
    Scalar.select b (Ideal.ofBits .f32 0x3F800000#32 + n * Ideal.ofBits .f32 0x3A83126F#32) z = ballot x n c := by
  unfold ballot Scalar.select
  have hb' : b = 1 ↔ Votes x c := hb
  subst hz
  by_cases h : Votes x c
  · rw [if_pos h, if_pos (hb'.2 h)]
  · rw [if_neg h, if_neg (fun e => h (hb'.1 e))]

/-! ## The host's fold -/

/-- The better of two (score, index) pairs: the greater score, and on equal scores the smaller index. -/
def better (a b : EReal × BitVec 32) : EReal × BitVec 32 :=
  (Scalar.select (IntOp.ori (Ideal.cmp .ogt a.1 b.1) (Ideal.cmp .une a.1 a.1)) a.1 b.1,
   Scalar.select (IntOp.ori (IntOp.ori (Ideal.cmp .ogt a.1 b.1) (Ideal.cmp .une a.1 a.1))
      (IntOp.andi (Ideal.cmp .oeq a.1 b.1) (IntOp.cmpi .slt a.2 b.2))) a.2 b.2)

/-- Pair `p` is no better than pair `r`. -/
def NoBetter (p r : EReal × BitVec 32) : Prop := p.1 < r.1 ∨ (p.1 = r.1 ∧ r.2.toInt ≤ p.2.toInt)

theorem NoBetter.refl (p : EReal × BitVec 32) : NoBetter p p := Or.inr ⟨rfl, le_rfl⟩

theorem NoBetter.trans {p q r : EReal × BitVec 32} (h : NoBetter p q) (h' : NoBetter q r) : NoBetter p r := by
  rcases h with h | ⟨h, i⟩ <;> rcases h' with h' | ⟨h', i'⟩
  · exact Or.inl (h.trans h')
  · exact Or.inl (h' ▸ h)
  · exact Or.inl (h ▸ h')
  · exact Or.inr ⟨h.trans h', i'.trans i⟩

theorem cmpi_slt_eq_one (a b : BitVec 32) : IntOp.cmpi .slt a b = 1#1 ↔ a.toInt < b.toInt := by
  simp [IntOp.cmpi, ofBool_eq_one, BitVec.slt]

/-- The better of two pairs is one of them, and neither is better than it. -/
theorem better_spec (a b : EReal × BitVec 32) :
    (better a b = a ∨ better a b = b) ∧ NoBetter a (better a b) ∧ NoBetter b (better a b) := by
  obtain ⟨av, ai⟩ := a
  obtain ⟨bv, bi⟩ := b
  by_cases h : bv < av
  · have e : better (av, ai) (bv, bi) = (av, ai) := by
      simp [better, Scalar.select, ori_eq_one, cmp_ogt, h]
    rw [e]
    exact ⟨Or.inl rfl, NoBetter.refl _, Or.inl h⟩
  · by_cases h' : av = bv
    · subst h'
      by_cases hi : ai.toInt < bi.toInt
      · have e : better (av, ai) (av, bi) = (av, ai) := by
          simp [better, Scalar.select, ori_eq_one, andi_eq_one, cmp_oeq, cmpi_slt_eq_one, hi]
        rw [e]
        exact ⟨Or.inl rfl, NoBetter.refl _, Or.inr ⟨rfl, hi.le⟩⟩
      · have e : better (av, ai) (av, bi) = (av, bi) := by
          simp [better, Scalar.select, ori_eq_one, andi_eq_one, cmp_oeq, cmp_ogt, cmp_une, cmpi_slt_eq_one, hi]
        rw [e]
        exact ⟨Or.inr rfl, Or.inr ⟨rfl, not_lt.1 hi⟩, NoBetter.refl _⟩
    · have e : better (av, ai) (bv, bi) = (bv, bi) := by
        simp [better, Scalar.select, ori_eq_one, andi_eq_one, cmp_oeq, cmp_ogt, cmp_une, h, h']
      rw [e]
      exact ⟨Or.inr rfl, Or.inl (lt_of_le_of_ne (not_lt.1 h) h'), NoBetter.refl _⟩

/-- The fold of a list of pairs by `better` is the starting pair or one of the list, and none of them is better. -/
theorem foldl_better (l : List (EReal × BitVec 32)) (a : EReal × BitVec 32) :
    (l.foldl better a = a ∨ l.foldl better a ∈ l) ∧ NoBetter a (l.foldl better a)
      ∧ ∀ p ∈ l, NoBetter p (l.foldl better a) := by
  induction l generalizing a with
  | nil => exact ⟨Or.inl rfl, NoBetter.refl _, fun p hp => absurd hp (List.not_mem_nil)⟩
  | cons b l ih =>
    obtain ⟨hm, ha, hl⟩ := ih (better a b)
    obtain ⟨hs, h1, h2⟩ := better_spec a b
    rw [List.foldl_cons]
    refine ⟨?_, h1.trans ha, ?_⟩
    · rcases hm with hm | hm
      · rcases hs with hs | hs
        · exact Or.inl (hm.trans hs)
        · exact Or.inr (List.mem_cons.2 (Or.inl (hm.trans hs)))
      · exact Or.inr (List.mem_cons.2 (Or.inr hm))
    · intro p hp
      rcases List.mem_cons.1 hp with rfl | hp
      · exact h2.trans ha
      · exact hl p hp

theorem toInt_ofNat_fin (k : Fin 5) : (BitVec.ofNat 32 k.val).toInt = (k.val : Int) := by
  revert k; decide

theorem ofNat_fin_inj (k c : Fin 5) : BitVec.ofNat 32 k.val = BitVec.ofNat 32 c.val ↔ k = c := by
  revert k c; decide

/-- The host's fold over the pairs (score of class `k`, `k`), from (−∞, 0) and in whatever order, ends at the index of
    the class that gets the vote. -/
theorem argmax_fold (x : Fin 5 → EReal) (l : List (EReal × BitVec 32))
    (hl : ∀ p, p ∈ l ↔ ∃ k : Fin 5, p = (x k, BitVec.ofNat 32 k.val)) (c : Fin 5) :
    (l.foldl better (⊥, 0#32)).2 = BitVec.ofNat 32 c.val ↔ Votes x c := by
  obtain ⟨hm, _, hb⟩ := foldl_better l (⊥, 0#32)
  generalize l.foldl better (⊥, 0#32) = r at hm hb
  have hk : ∃ k : Fin 5, r = (x k, BitVec.ofNat 32 k.val) := by
    rcases hm with rfl | hm
    · refine ⟨0, ?_⟩
      rcases hb _ ((hl _).2 ⟨0, rfl⟩) with h | ⟨h, _⟩
      · exact absurd h not_lt_bot
      · exact Prod.ext h.symm rfl
    · exact (hl r).1 hm
  obtain ⟨k, rfl⟩ := hk
  have hv : Votes x k := by
    refine ⟨fun j => ?_, fun j hj => ?_⟩
    · rcases hb _ ((hl _).2 ⟨j, rfl⟩) with h | ⟨h, _⟩
      · exact le_of_lt h
      · exact le_of_eq h
    · rcases hb _ ((hl _).2 ⟨j, rfl⟩) with h | ⟨_, h⟩
      · exact h
      · simp only [toInt_ofNat_fin] at h
        exact absurd (Fin.lt_def.1 hj) (by omega)
  constructor
  · intro h
    rw [← (ofNat_fin_inj k c).1 h]
    exact hv
  · intro h
    rw [votes_unique hv h]

end Cert.Vote
-- ==== Proof.Ref.lean ====
/-
  The reference, run at the extended reals: what its result array ends holding.
-/
module

public import proofs.«01_k».proof.Defs
public import proofs.«01_k».proof.Proof.Gen.ReferenceIdeal
public import proofs.«01_k».proof.Proof.Vote
public import Idealize.ShloMosaic.Lib.StableHlo.RunHlo
public import Idealize.ShloMosaic.Lib.Claim
public import Idealize.ShloMosaic.Lib.Quiescent
public import Idealize.ShloMosaic.Lib.Pointwise

@[expose] public section

set_option maxRecDepth 16384

noncomputable section

open Idealize.ShloMosaic Idealize.ShloMosaic.TcCoe Idealize.SL.Sem

namespace Cert.ReferenceIdeal.Tally

open Cert.ReferenceIdeal Cert.ReferenceIdeal.Facts₀

/-- The class index that the reference's arg-max gives each (expert, batch, position). -/
def winner (x : FVec Ideal S10x128x4000x5 .f32) : IVec S10x128x4000 32 := fun j =>
  (Host.argReduce (F := Ideal) (reducer_argmax_f32_i32 (F := Ideal)) x (iotaInDim S10x128x4000x5 32 3)
    (constant S_ .f32 0xFF800000#32) (constantI S_ 32 0#32) reducesTo_S10x128x4000x5_S10x128x4000_d3 h_S_ j).2

/-- The reference's result as its operations compose it. -/
def result (x : FVec Ideal S10x128x4000x5 .f32) (n : FVec Ideal S10x128x4000 .f32) : FVec Ideal S128x4000x5 .f32 :=
  Host.dotGeneral dot_S10x128x4000x5_S10x128x4000_S128x4000x5_0_0_3_n_12_12 none
    (uitofp .f32 (cmpi .eq
      (broadcastInDim S10x128x4000x5 ![0, 1, 2, 3] bcast_S10x128x4000x1_S10x128x4000x5_0_1_2_3
        (broadcastInDim S10x128x4000x1 ![0, 1, 2] bcast_S10x128x4000_S10x128x4000x1_0_1_2 (winner x)))
      (broadcastInDim S10x128x4000x5 ![0, 1, 2, 3] bcast_S1x1x1x5_S10x128x4000x5_0_1_2_3 (iotaInDim S1x1x1x5 32 3))))
    (addf (broadcastInDim S10x128x4000 ![] bcast_S_S10x128x4000 (constant S_ .f32 0x3F800000#32))
      (mulf n (broadcastInDim S10x128x4000 ![] bcast_S_S10x128x4000 (constant S_ .f32 0x3A83126F#32))))

/-- The reference's run: the result array ends holding `result` of the arguments, which end unchanged. -/
theorem run (m : (ℓ : Loc nD τ sig) → Buf (Elt Ideal) ℓ) (g : Dev nD → PrngReg) :
    θ_run (defs (F := Ideal)) (onTc (τ := τ) (main (F := Ideal))) ⟨m, fun _ => 0, g⟩ fun r => ∀ c : Dev nD,
      r.2.mem ((c.tc : Thread nD τ).loc main_v6)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  hlo_run
  simp -implicitDefEqProofs only [StableHlo.TRef.toBuf, StableHlo.TRef.ofBuf, cast_cast, cast_eq]
  unfold result winner
  with_reducible rfl

/-- The reference's frame claim: it runs, its arguments end unchanged, every semaphore reads zero. -/
theorem frame : Cert.quiescent_ReferenceIdeal := fun m g _ =>
  (θ_run defs _ _).mono (fun r h => ⟨fun c => (h c).2, sem_eq_zero_of_no_sems (by decide) r.2⟩) (run m g)

/-- The reference's reducer, at the extended reals, takes the better of two (score, index) pairs. -/
theorem reducer_eq : (reducer_argmax_f32_i32 (F := Ideal)) = Vote.better := rfl

/-- The pairs that the arg-max folds at one (expert, batch, position) are the five scores there with their class indices. -/
theorem mem_fiber (x : FVec Ideal S10x128x4000x5 .f32) (e : Fin 10) (b : Fin 128) (s : Fin 4000) (p : EReal × BitVec 32) :
    p ∈ Host.argReduceFiber (α := EReal) x (iotaInDim S10x128x4000x5 32 3) reducesTo_S10x128x4000x5_S10x128x4000_d3 (ix3 e b s)
      ↔ ∃ k : Fin 5, p = (x (ix4 e b s k), BitVec.ofNat 32 k.val) := by
  unfold Host.argReduceFiber
  rw [List.mem_map]
  constructor
  · rintro ⟨n, hn, rfl⟩
    have hn' := of_decide_eq_true (List.mem_filter.1 hn).2
    obtain ⟨k, hk⟩ := (Shape.ReducesTo.fiber_r4_a3 reducesTo_S10x128x4000x5_S10x128x4000_d3 (ix3 e b s) _).1 hn'
    refine ⟨k, ?_⟩
    rw [← hk]
    rfl
  · rintro ⟨k, rfl⟩
    refine ⟨S10x128x4000x5.rowMajor (ix4 e b s k), List.mem_filter.2 ⟨List.mem_finRange _, ?_⟩, ?_⟩
    · rw [Equiv.symm_apply_apply]
      exact decide_eq_true ((Shape.ReducesTo.fiber_r4_a3 reducesTo_S10x128x4000x5_S10x128x4000_d3 (ix3 e b s) _).2 ⟨k, rfl⟩)
    · rw [Equiv.symm_apply_apply]
      rfl

/-- The arg-max of any operands, index by index, as the fold over the pairs dropping to that index. -/
theorem argReduce_snd {s t u : Shape} {axes : List (Fin s.rank)} (f : EReal × BitVec 32 → EReal × BitVec 32 → EReal × BitVec 32)
    (x : FVec Ideal s .f32) (y : IVec s 32) (a : FVec Ideal u .f32) (b : IVec u 32) (h : s.ReducesTo axes t) (hu : 0 < u.numel) :
    (fun j => (Host.argReduce (F := Ideal) (φ := .f32) f x y a b h hu j).2)
      = fun j => ((Host.argReduceFiber (α := EReal) x y h j).foldl f (a (Shape.Idx.first hu), b (Shape.Idx.first hu))).2 :=
  funext fun j => by rw [Ideal.argReduce_eq_reduce2, Host.reduce2_eq_foldl_fiber]

/-- The pair that the fold starts from: minus infinity at index zero. -/
theorem start_eq : ((constant S_ .f32 0xFF800000#32 : FVec Ideal S_ .f32) (Shape.Idx.first h_S_), (constantI S_ 32 0#32) (Shape.Idx.first h_S_))
    = ((⊥ : EReal), 0#32) :=
  Prod.ext (by show Ideal.ofBits .f32 0xFF800000#32 = ⊥; simp [Ideal.ofBits, Ideal.ieee]) rfl

/-- The winner as that fold. -/
theorem winner_fold (x : FVec Ideal S10x128x4000x5 .f32) :
    winner x = fun j => ((Host.argReduceFiber (α := EReal) x (iotaInDim S10x128x4000x5 32 3)
      reducesTo_S10x128x4000x5_S10x128x4000_d3 j).foldl Vote.better (⊥, 0#32)).2 := by
  rw [← start_eq]
  exact argReduce_snd Vote.better x (iotaInDim S10x128x4000x5 32 3) (constant S_ .f32 0xFF800000#32) (constantI S_ 32 0#32)
    reducesTo_S10x128x4000x5_S10x128x4000_d3 h_S_

/-- The reference's arg-max is the class that gets the vote. -/
theorem winner_iff (x : FVec Ideal S10x128x4000x5 .f32) (e : Fin 10) (b : Fin 128) (s : Fin 4000) (c : Fin 5) :
    winner x (ix3 e b s) = BitVec.ofNat 32 c.val ↔ Vote.Votes (fun k => x (ix4 e b s k)) c := by
  rw [winner_fold x]
  exact Vote.argmax_fold (fun k => x (ix4 e b s k)) _ (mem_fiber x e b s) c

/-- A one-hot entry times a weight is the weight where the bit is set, else zero. -/
theorem bit_mul (b : BitVec 1) (w : EReal) : (FloatOps.uitofp (F := Ideal) .f32 b : EReal) * w = Scalar.select b w 0 := by
  have hb : b = 0#1 ∨ b = 1#1 := by revert b; decide
  show ((b.toNat : ℝ) : EReal) * w = _
  rcases hb with rfl | rfl <;> simp [Scalar.select]

theorem cmpi_eq_one (a b : BitVec 32) : IntOp.cmpi .eq a b = 1#1 ↔ a = b := by
  simp [IntOp.cmpi, Vote.ofBool_eq_one]

/-- The host's contraction over the experts at an index. -/
theorem dot_apply (l : FVec Ideal S10x128x4000x5 .f32) (r : FVec Ideal S10x128x4000 .f32) (b : Fin 128) (s : Fin 4000) (c : Fin 5) :
    (Host.dotGeneral dot_S10x128x4000x5_S10x128x4000_S128x4000x5_0_0_3_n_12_12 none l r : FVec Ideal S128x4000x5 .f32) (ix3 b s c)
      = ∑ e : Fin 10, l (ix4 e b s c) * r (ix3 e b s) := by
  pointwise

/-- The reference's weight at an index. -/
theorem weight_apply (n : FVec Ideal S10x128x4000 .f32) (e : Fin 10) (b : Fin 128) (s : Fin 4000) :
    (addf (broadcastInDim S10x128x4000 ![] bcast_S_S10x128x4000 (constant S_ .f32 0x3F800000#32))
      (mulf n (broadcastInDim S10x128x4000 ![] bcast_S_S10x128x4000 (constant S_ .f32 0x3A83126F#32)))) (ix3 e b s)
      = Ideal.ofBits .f32 0x3F800000#32 + n (ix3 e b s) * Ideal.ofBits .f32 0x3A83126F#32 := rfl

/-- The one-hot array at an index: the bit that says whether the winner is that class, as a float. -/
theorem onehot_apply (w : IVec S10x128x4000 32) (e : Fin 10) (b : Fin 128) (s : Fin 4000) (c : Fin 5) :
    (uitofp (F := Ideal) .f32 (cmpi .eq
      (broadcastInDim S10x128x4000x5 ![0, 1, 2, 3] bcast_S10x128x4000x1_S10x128x4000x5_0_1_2_3
        (broadcastInDim S10x128x4000x1 ![0, 1, 2] bcast_S10x128x4000_S10x128x4000x1_0_1_2 w))
      (broadcastInDim S10x128x4000x5 ![0, 1, 2, 3] bcast_S1x1x1x5_S10x128x4000x5_0_1_2_3 (iotaInDim S1x1x1x5 32 3)))) (ix4 e b s c)
      = FloatOps.uitofp .f32 (IntOp.cmpi .eq (w (ix3 e b s)) (BitVec.ofNat 32 c.val)) := by
  pointwise

/-- The reference's result at an index: the experts' ballots for that class, summed. -/
theorem result_apply (x : FVec Ideal S10x128x4000x5 .f32) (n : FVec Ideal S10x128x4000 .f32) (b : Fin 128) (s : Fin 4000) (c : Fin 5) :
    result x n (ix3 b s c) = ∑ e : Fin 10, Vote.ballot (fun k => x (ix4 e b s k)) (n (ix3 e b s)) c := by
  unfold result
  rw [dot_apply]
  refine Finset.sum_congr rfl fun e _ => ?_
  rw [onehot_apply, weight_apply, bit_mul]
  exact Vote.select_ballot ((cmpi_eq_one _ _).trans (winner_iff x e b s c)) _ _ rfl

end Cert.ReferenceIdeal.Tally
-- ==== Proof.Body.lean ====
/-
  The kernel's body: what one grid point leaves in its block of tallies.

  The body is fifty chunks of eight rows, each with the same text for ten experts and five classes. It is written here
  once (`score`, `weight`, `picks`, `share`, `tally`, `store`), the fifty chunks are one recursive list of stores
  (`stores`), and `out_eq` says that the body's stores are that list. The value is then read by induction over the
  chunks: `out_tally` says that the block ends holding the ten experts' ballots summed at each index.
-/
module

public import proofs.«01_k».proof.Proof.Gen.KernelIdeal.Frame
public import proofs.«01_k».proof.Proof.Vote
public import Idealize.ShloMosaic.Lib.Pipeline.ValueKit
public import Idealize.ShloMosaic.Lib.ValueLayout
public import Idealize.ShloMosaic.Lib.Tactic

@[expose] public section

set_option maxRecDepth 16384

noncomputable section

namespace Cert.KernelIdeal.Tally

open Idealize.ShloMosaic Idealize.ShloMosaic.TcCoe Idealize.SL.Sem

variable {F : FTy → Type} [FloatOps F]

/-! ## The body, written once for a chunk of rows -/

/-- The rows `r … r + 8 - 1` of class `k` of expert `e` lie in the block of scores. -/
theorem score_inb {e k r : Nat} (he : e < 10) (hk : k < 5) (hr : r + 8 ≤ 400) :
    ∀ a, (![e, k, r, 0] : Fin 4 → Nat) a + S1x1x8x128.size a ≤ S10x5x400x128.size a := fun a =>
  match a with
  | ⟨0, _⟩ => he
  | ⟨1, _⟩ => hk
  | ⟨2, _⟩ => hr
  | ⟨3, _⟩ => Nat.le_refl 128

/-- The rows `r … r + 8 - 1` of expert `e` lie in the block of noise. -/
theorem noise_inb {e r : Nat} (he : e < 10) (hr : r + 8 ≤ 400) :
    ∀ a, (![e, r, 0] : Fin 3 → Nat) a + S1x8x128.size a ≤ S10x400x128.size a := fun a =>
  match a with
  | ⟨0, _⟩ => he
  | ⟨1, _⟩ => hr
  | ⟨2, _⟩ => Nat.le_refl 128

/-- The rows `r … r + 8 - 1` of class `c` lie in the block of tallies. -/
theorem tally_inb {c r : Nat} (hc : c < 5) (hr : r + 8 ≤ 400) :
    ∀ a, (![c, r, 0] : Fin 3 → Nat) a + S1x8x128.size a ≤ S5x400x128.size a := fun a =>
  match a with
  | ⟨0, _⟩ => hc
  | ⟨1, _⟩ => hr
  | ⟨2, _⟩ => Nat.le_refl 128

/-- The scores that expert `e` gives class `k` on the chunk of rows from `r`. -/
def score (x0 : Vec F S10x5x400x128 .f32) (e k r : Nat) (he : e < 10) (hk : k < 5) (hr : r + 8 ≤ 400) :
    FVec F S8x128 .f32 :=
  shapeCast S8x128 (View.ld x0 (Rect.unit (s := S10x5x400x128) ![e, k, r, 0] S1x1x8x128.size
    (score_inb he hk hr))) Gen.shapeCasts_S1x1x8x128_S8x128

/-- What the vote of expert `e` weighs on the chunk of rows from `r`. -/
def weight (x1 : Vec F S10x400x128 .f32) (e r : Nat) (he : e < 10) (hr : r + 8 ≤ 400) : FVec F S8x128 .f32 :=
  addf (broadcast S8x128 (Scalar.ofBits .f32 0x3F800000#32))
    (mulf (shapeCast S8x128 (View.ld x1 (Rect.unit (s := S10x400x128) ![e, r, 0] S1x8x128.size
      (noise_inb he hr))) Gen.shapeCasts_S1x8x128_S8x128) (broadcast S8x128 (Scalar.ofBits .f32 0x3A83126F#32)))

/-- Where the class `c` is picked among five scores: it reaches the maximum, and no earlier one does. -/
def picks (c : Nat) (s0 s1 s2 s3 s4 : FVec F S8x128 .f32) : IVec S8x128 1 :=
  match c with
  | 0 => cmpf .oeq s0 (maximumf (maximumf (maximumf (maximumf s0 s1) s2) s3) s4)
  | 1 => andi (cmpf .oeq s1 (maximumf (maximumf (maximumf (maximumf s0 s1) s2) s3) s4))
      (cmpf .olt s0 (maximumf (maximumf (maximumf (maximumf s0 s1) s2) s3) s4))
  | 2 => andi (cmpf .oeq s2 (maximumf (maximumf (maximumf (maximumf s0 s1) s2) s3) s4))
      (cmpf .olt (maximumf s0 s1) (maximumf (maximumf (maximumf (maximumf s0 s1) s2) s3) s4))
  | 3 => andi (cmpf .oeq s3 (maximumf (maximumf (maximumf (maximumf s0 s1) s2) s3) s4))
      (cmpf .olt (maximumf (maximumf s0 s1) s2) (maximumf (maximumf (maximumf (maximumf s0 s1) s2) s3) s4))
  | _ => cmpf .olt (maximumf (maximumf (maximumf s0 s1) s2) s3)
      (maximumf (maximumf (maximumf (maximumf s0 s1) s2) s3) s4)

/-- What expert `e` adds to the tally of class `c` on the chunk of rows from `r`. -/
def share (x0 : Vec F S10x5x400x128 .f32) (x1 : Vec F S10x400x128 .f32) (c e r : Nat) (he : e < 10)
    (hr : r + 8 ≤ 400) : FVec F S8x128 .f32 :=
  select (picks c (score x0 e 0 r he (by decide) hr) (score x0 e 1 r he (by decide) hr)
      (score x0 e 2 r he (by decide) hr) (score x0 e 3 r he (by decide) hr) (score x0 e 4 r he (by decide) hr))
    (weight x1 e r he hr) (broadcast S8x128 (Scalar.ofBits .f32 0x00000000#32))

/-- The tally of class `c` on the chunk of rows from `r`, as the body stores it: the ten experts' shares, added
    from the left. -/
def tally (x0 : Vec F S10x5x400x128 .f32) (x1 : Vec F S10x400x128 .f32) (c r : Nat) (hr : r + 8 ≤ 400) :
    FVec F S1x8x128 .f32 :=
  shapeCast S1x8x128
    (addf (addf (addf (addf (addf (addf (addf (addf (addf
      (share x0 x1 c 0 r (by decide) hr) (share x0 x1 c 1 r (by decide) hr)) (share x0 x1 c 2 r (by decide) hr))
      (share x0 x1 c 3 r (by decide) hr)) (share x0 x1 c 4 r (by decide) hr)) (share x0 x1 c 5 r (by decide) hr))
      (share x0 x1 c 6 r (by decide) hr)) (share x0 x1 c 7 r (by decide) hr)) (share x0 x1 c 8 r (by decide) hr))
      (share x0 x1 c 9 r (by decide) hr)) Gen.shapeCasts_S8x128_S1x8x128

/-- One store of the body: the tally of class `c` on the chunk of rows from `r`. -/
def store (x0 : Vec F S10x5x400x128 .f32) (x1 : Vec F S10x400x128 .f32) (c r : Nat) (hc : c < 5)
    (hr : r + 8 ≤ 400) : View.Piece (Elt F) S5x400x128 .f32 :=
  ⟨Rect.unit (s := S5x400x128) ![c, r, 0] S1x8x128.size (tally_inb hc hr), tally x0 x1 c r hr⟩

/-- The stores of the first `n` chunks, the last one first. -/
def stores (x0 : Vec F S10x5x400x128 .f32) (x1 : Vec F S10x400x128 .f32) :
    (n : Nat) → 8 * n ≤ 400 → List (View.Piece (Elt F) S5x400x128 .f32)
  | 0, _ => []
  | n + 1, h =>
    store x0 x1 4 (8 * n) (by decide) h :: store x0 x1 3 (8 * n) (by decide) h ::
    store x0 x1 2 (8 * n) (by decide) h :: store x0 x1 1 (8 * n) (by decide) h ::
    store x0 x1 0 (8 * n) (by decide) h :: stores x0 x1 n (Nat.le_trans (Nat.mul_le_mul_left 8 (Nat.le_succ n)) h)

/-- What the body leaves in the block of tallies is these stores laid over one another. -/
theorem out_eq (x0 : Vec F S10x5x400x128 .f32) (x1 : Vec F S10x400x128 .f32) :
    Gen.out0_2 x0 x1 = View.canon (stores x0 x1 50 (by decide)) := by
  sl_kernel_rfl

/-! ## What the stores hold, over the extended reals -/

/-- The tally that the body should leave: at class `c`, row `s` and lane `l`, the ten experts' ballots on the scores
    and the noise at that row and lane. -/
def blockTally (x0 : Vec Ideal S10x5x400x128 .f32) (x1 : Vec Ideal S10x400x128 .f32) : Vec Ideal S5x400x128 .f32 :=
  fun y => ∑ e : Fin 10, Vote.ballot (fun k => x0 (ix4 e k (y 1) (y 2))) (x1 (ix3 e (y 1) (y 2))) (y 0)

/-- A chunk of scores at an index. -/
theorem score_apply (x0 : Vec Ideal S10x5x400x128 .f32) {e k r : Nat} (he : e < 10) (hk : k < 5) (hr : r + 8 ≤ 400)
    (i : Fin 8) (l : Fin 128) :
    score x0 e k r he hk hr (ix2 i l) = x0 (ix4 (⟨e, he⟩ : Fin 10) (⟨k, hk⟩ : Fin 5) (⟨r + i, by omega⟩ : Fin 400) l) := by
  unfold score
  rw [shapeCast_apply _ _ (ix2 i l) (ix4 (0 : Fin 1) (0 : Fin 1) i l) (by
    rw [Shape.rowMajor_val_four, Shape.rowMajor_val_two]
    show ((0 * 1 + 0) * 8 + i.val) * 128 + l.val = i.val * 128 + l.val
    omega)]
  refine congrArg x0 (funext fun a => Fin.ext ?_)
  refine (ValueKit.rect_emb_unit_val _ _ _ _ a).trans ?_
  match a with
  | ⟨0, _⟩ => rfl
  | ⟨1, _⟩ => rfl
  | ⟨2, _⟩ => rfl
  | ⟨3, _⟩ => exact Nat.zero_add _

/-- A chunk of weights at an index. -/
theorem weight_apply (x1 : Vec Ideal S10x400x128 .f32) {e r : Nat} (he : e < 10) (hr : r + 8 ≤ 400)
    (i : Fin 8) (l : Fin 128) :
    weight x1 e r he hr (ix2 i l) = Ideal.ofBits .f32 0x3F800000#32
      + x1 (ix3 (⟨e, he⟩ : Fin 10) (⟨r + i, by omega⟩ : Fin 400) l) * Ideal.ofBits .f32 0x3A83126F#32 := by
  have h : shapeCast S8x128 (View.ld x1 (Rect.unit (s := S10x400x128) ![e, r, 0] S1x8x128.size
      (noise_inb he hr))) Gen.shapeCasts_S1x8x128_S8x128 (ix2 i l)
      = x1 (ix3 (⟨e, he⟩ : Fin 10) (⟨r + i, by omega⟩ : Fin 400) l) := by
    refine (ValueIdx.shapeCast_1ab_ab_apply _ _ i l).trans ?_
    refine congrArg x1 (funext fun a => Fin.ext ?_)
    refine (ValueKit.rect_emb_unit_val _ _ _ _ a).trans ?_
    match a with
    | ⟨0, _⟩ => rfl
    | ⟨1, _⟩ => rfl
    | ⟨2, _⟩ => exact Nat.zero_add _
  rw [← h]; rfl

/-- The mask of a class at an index is the vote's mask of the five scores there. -/
theorem picks_apply (c : Fin 5) (s0 s1 s2 s3 s4 : FVec Ideal S8x128 .f32) (j : S8x128.Idx) :
    picks c.val s0 s1 s2 s3 s4 j = Vote.pickMask ![s0 j, s1 j, s2 j, s3 j, s4 j] c := by
  match c with
  | 0 => rfl
  | 1 => rfl
  | 2 => rfl
  | 3 => rfl
  | 4 => rfl

/-- An expert's share at an index is its ballot there. -/
theorem share_apply (x0 : Vec Ideal S10x5x400x128 .f32) (x1 : Vec Ideal S10x400x128 .f32) (c : Fin 5) {e r : Nat}
    (he : e < 10) (hr : r + 8 ≤ 400) (i : Fin 8) (l : Fin 128) :
    share x0 x1 c.val e r he hr (ix2 i l)
      = Vote.ballot (fun k => x0 (ix4 (⟨e, he⟩ : Fin 10) k (⟨r + i, by omega⟩ : Fin 400) l))
          (x1 (ix3 (⟨e, he⟩ : Fin 10) (⟨r + i, by omega⟩ : Fin 400) l)) c := by
  unfold share
  show Scalar.select (picks c.val _ _ _ _ _ (ix2 i l)) (weight x1 e r he hr (ix2 i l)) (Ideal.ofBits .f32 0x00000000#32) = _
  rw [picks_apply, weight_apply]
  simp only [score_apply]
  refine Vote.select_ballot ((Vote.pickMask_iff _ _).trans (iff_of_eq (congrArg (Vote.Votes · c) ?_))) _ _
    Ideal.ofBits_zero_f32
  funext k
  match k with
  | 0 => rfl
  | 1 => rfl
  | 2 => rfl
  | 3 => rfl
  | 4 => rfl

/-- The tally of a chunk at an index is the sum of the ten ballots there. -/
theorem tally_apply (x0 : Vec Ideal S10x5x400x128 .f32) (x1 : Vec Ideal S10x400x128 .f32) (c : Fin 5) {r : Nat}
    (hr : r + 8 ≤ 400) (u : Fin 1) (i : Fin 8) (l : Fin 128) :
    tally x0 x1 c.val r hr (ix3 u i l)
      = ∑ e : Fin 10, Vote.ballot (fun k => x0 (ix4 e k (⟨r + i, by omega⟩ : Fin 400) l))
          (x1 (ix3 e (⟨r + i, by omega⟩ : Fin 400) l)) c := by
  unfold tally
  refine (ValueIdx.shapeCast_ab_1ab_apply (a := 8) (b := 128) _ _ u i l).trans ?_
  simp only [Fin.sum_univ_castSucc, Finset.univ_eq_empty, Finset.sum_empty, zero_add]
  refine congrArg₂ (· + ·) (congrArg₂ (· + ·) (congrArg₂ (· + ·) (congrArg₂ (· + ·) (congrArg₂ (· + ·)
    (congrArg₂ (· + ·) (congrArg₂ (· + ·) (congrArg₂ (· + ·) (congrArg₂ (· + ·) ?_ ?_) ?_) ?_) ?_) ?_) ?_) ?_) ?_) ?_ <;>
  exact share_apply x0 x1 c _ hr i l

/-- A store's payload is the tally at the indices of its rectangle. -/
theorem store_agrees (x0 : Vec Ideal S10x5x400x128 .f32) (x1 : Vec Ideal S10x400x128 .f32) {c r : Nat} (hc : c < 5)
    (hr : r + 8 ≤ 400) (x : S1x8x128.Idx) :
    tally x0 x1 c r hr x = blockTally x0 x1
      ((Rect.unit (s := S5x400x128) ![c, r, 0] S1x8x128.size (tally_inb hc hr)).emb x) := by
  obtain ⟨u, i, l, rfl⟩ : ∃ (u : Fin 1) (i : Fin 8) (l : Fin 128), x = ix3 u i l :=
    ⟨x 0, x 1, x 2, funext fun a => match a with
      | ⟨0, _⟩ => rfl
      | ⟨1, _⟩ => rfl
      | ⟨2, _⟩ => rfl⟩
  have hx : (Rect.unit (s := S5x400x128) ![c, r, 0] S1x8x128.size (tally_inb hc hr)).emb (ix3 u i l)
      = ix3 (⟨c, hc⟩ : Fin 5) (⟨r + i, by omega⟩ : Fin 400) l := by
    funext a
    refine Fin.ext ((ValueKit.rect_emb_unit_val _ _ _ _ a).trans ?_)
    match a with
    | ⟨0, _⟩ => show c + u.val = c; omega
    | ⟨1, _⟩ => rfl
    | ⟨2, _⟩ => exact Nat.zero_add _
  rw [hx]
  exact tally_apply x0 x1 ⟨c, hc⟩ hr u i l

/-- Every store agrees with the tally. -/
theorem stores_agree (x0 : Vec Ideal S10x5x400x128 .f32) (x1 : Vec Ideal S10x400x128 .f32) :
    ∀ (n : Nat) (h : 8 * n ≤ 400), ∀ p ∈ stores x0 x1 n h, ∀ x : p.1.shape.Idx, p.2 x = blockTally x0 x1 (p.1.emb x)
  | 0, _, p, hp => by simp [stores] at hp
  | n + 1, h, p, hp => by
    simp only [stores, List.mem_cons] at hp
    rcases hp with rfl | rfl | rfl | rfl | rfl | hp
    · exact store_agrees x0 x1 (c := 4) (by decide) h
    · exact store_agrees x0 x1 (c := 3) (by decide) h
    · exact store_agrees x0 x1 (c := 2) (by decide) h
    · exact store_agrees x0 x1 (c := 1) (by decide) h
    · exact store_agrees x0 x1 (c := 0) (by decide) h
    · exact stores_agree x0 x1 n _ p hp

/-- An index whose class is `c` and whose row lies in the chunk from `r` is in that store's rectangle. -/
theorem mem_store (x0 : Vec Ideal S10x5x400x128 .f32) (x1 : Vec Ideal S10x400x128 .f32) {c r : Nat} (hc : c < 5)
    (hr : r + 8 ≤ 400) (y : S5x400x128.Idx) (h0 : (y 0).val = c) (h1 : r ≤ (y 1).val) (h2 : (y 1).val < r + 8) :
    y ∈ (store x0 x1 c r hc hr).1.set := by
  refine (Rect.mem_set_unit (inb := tally_inb hc hr)).2 fun a => ?_
  match a with
  | ⟨0, _⟩ => exact ⟨h0.ge, by show (y 0).val < c + 1; omega⟩
  | ⟨1, _⟩ => exact ⟨h1, h2⟩
  | ⟨2, _⟩ => exact ⟨Nat.zero_le _, by have : (y 2).val < 128 := (y 2).isLt; show (y 2).val < 0 + 128; omega⟩

/-- The stores of the first `n` chunks cover the rows before `8 n`. -/
theorem stores_cover (x0 : Vec Ideal S10x5x400x128 .f32) (x1 : Vec Ideal S10x400x128 .f32) (y : S5x400x128.Idx) :
    ∀ (n : Nat) (h : 8 * n ≤ 400), (y 1).val < 8 * n → ∃ p ∈ stores x0 x1 n h, y ∈ p.1.set
  | 0, _, hy => by omega
  | n + 1, h, hy => by
    by_cases hn : (y 1).val < 8 * n
    · obtain ⟨p, hp, hm⟩ := stores_cover x0 x1 y n (by omega) hn
      exact ⟨p, by simp only [stores, List.mem_cons]; tauto, hm⟩
    · have h1 : 8 * n ≤ (y 1).val := by omega
      have h2 : (y 1).val < 8 * n + 8 := hy
      have hc : (y 0).val < 5 := (y 0).isLt
      refine ⟨store x0 x1 (y 0).val (8 * n) hc h, ?_, mem_store x0 x1 hc h y rfl h1 h2⟩
      simp only [stores, List.mem_cons]
      generalize (y 0).val = c at hc
      match c, hc with
      | 0, _ => tauto
      | 1, _ => tauto
      | 2, _ => tauto
      | 3, _ => tauto
      | 4, _ => tauto

/-- The body leaves the tally of its blocks. -/
theorem out_tally (x0 : Vec Ideal S10x5x400x128 .f32) (x1 : Vec Ideal S10x400x128 .f32) :
    Gen.out0_2 x0 x1 = blockTally x0 x1 := by
  rw [out_eq]
  exact funext fun y => View.canon_apply_of_pieces _ _ (stores_agree x0 x1 50 _) y
    (stores_cover x0 x1 y 50 _ (y 1).isLt)

end Cert.KernelIdeal.Tally
-- ==== Proof.Run.lean ====
/-
  The kernel's run over the extended reals: from the body's blocks to the whole result.

  `arr_eq`: the ten blocks tile the array of tallies. `run`: with the transposes before and after the grid, the result
  buffer ends at `result` of the arguments. `result_apply`: that is the ten experts' ballots summed at each index.
-/
module

public import proofs.«01_k».proof.Defs
public import proofs.«01_k».proof.Proof.Body
public import Idealize.ShloMosaic.Lib.Pipeline.ValueKit
public import Idealize.ShloMosaic.Lib.StableHlo.RunHlo
public import Idealize.ShloMosaic.Lib.Claim
public import Idealize.ShloMosaic.Lib.Pointwise

@[expose] public section

set_option maxRecDepth 16384

noncomputable section

namespace Cert.KernelIdeal.Tally

open Idealize.ShloMosaic Idealize.ShloMosaic.TcCoe Idealize.SL.Sem
open Idealize.ShloMosaic.Pipeline (Dat)

variable (m : (ℓ : Loc nD τ sig) → Buf (Elt Ideal) ℓ)

/-- The tally of whole arrays laid out as the region wants them: at class `c`, row `s` and lane `l`, the ten experts'
    ballots on the scores and the noise at that row and lane. -/
def laneTally (X : Vec Ideal S10x5x4000x128 .f32) (N : Vec Ideal S10x4000x128 .f32) : Vec Ideal S5x4000x128 .f32 :=
  fun y => ∑ e : Fin 10, Vote.ballot (fun k => X (ix4 e k (y 1) (y 2))) (N (ix3 e (y 1) (y 2))) (y 0)

/-- Grid point `t` works on the rows `400 t … 400 t + 399` of all three arrays. -/
theorem index_eq : ∀ t : Fin cfg0.N, win0_0.index t = ![0, 0, t.val, 0] ∧ win0_1.index t = ![0, t.val, 0]
    ∧ win0_2.index t = ![0, t.val, 0] :=
  (by decide +kernel : ∀ t : Fin grid0.N, _)

/-- A block of scores at an index is the array of scores at the block's rows. -/
theorem scores_apply (c : Dev nD) (t : Fin cfg0.N) (e : Fin 10) (k : Fin 5) (i : Fin 400) (l : Fin 128) (s : Fin 4000)
    (hs : s.val = t.val * 400 + i.val) :
    Gen.iblk m c 0 t (ix4 e k i l) = Gen.V m c main_v0 (ix4 e k s l) := by
  obtain ⟨e0, -, -⟩ := index_eq t
  blk_ext [Gen.iblk, e0]

/-- A block of noise at an index is the array of noise at the block's rows. -/
theorem noise_apply (c : Dev nD) (t : Fin cfg0.N) (e : Fin 10) (i : Fin 400) (l : Fin 128) (s : Fin 4000)
    (hs : s.val = t.val * 400 + i.val) :
    Gen.iblk m c 1 t (ix3 e i l) = Gen.V m c main_v1 (ix3 e s l) := by
  obtain ⟨-, e1, -⟩ := index_eq t
  blk_ext [Gen.iblk, e1]

/-- The array of tallies after the region is the tally of the two arrays that the region found. -/
theorem arr_eq (c : Dev nD) : (Gen.dats m 0 c).arrAt 2 cfg0.N = laneTally (Gen.V m c main_v0) (Gen.V m c main_v1) := by
  refine (Gen.dats m 0 c).arrAt_eq_of_covers 2 _ (by decide +kernel) fun t hf y => ?_
  blk_simp
  rw [Gen.after0_2, out_tally]
  obtain ⟨-, -, e2⟩ := index_eq t
  have h0 : ((win0_2.blk t).view.emb y) 0 = y 0 := Fin.ext (by blk_simp [e2])
  have h2 : ((win0_2.blk t).view.emb y) 2 = y 2 := Fin.ext (by blk_simp [e2])
  have h1 : (((win0_2.blk t).view.emb y) 1).val = t.val * 400 + (y 1).val := by blk_simp [e2]
  show (∑ e : Fin 10, Vote.ballot _ _ (y 0)) = ∑ e : Fin 10, Vote.ballot _ _ (((win0_2.blk t).view.emb y) 0)
  rw [h0, h2]
  refine Finset.sum_congr rfl fun e _ => ?_
  rw [noise_apply m c t e (y 1) (y 2) _ h1]
  refine congrArg (Vote.ballot · _ _) (funext fun k => ?_)
  exact scores_apply m c t e k (y 1) (y 2) _ h1

/-- What the kernel leaves in its result: the tally of the transposed arguments, transposed back. -/
def result (x : Vec Ideal S10x128x4000x5 .f32) (n : Vec Ideal S10x128x4000 .f32) : Vec Ideal S128x4000x5 .f32 :=
  transpose S128x4000x5 [2, 1, 0] (laneTally
    (transpose S10x5x4000x128 [0, 3, 2, 1] x Gen.transposes_S10x128x4000x5_S10x5x4000x128_0_3_2_1)
    (transpose S10x4000x128 [0, 2, 1] n Gen.transposes_S10x128x4000_S10x4000x128_0_2_1))
    Gen.transposes_S5x4000x128_S128x4000x5_2_1_0

/-- The result at an index: the ten experts' ballots there. -/
theorem result_apply (x : Vec Ideal S10x128x4000x5 .f32) (n : Vec Ideal S10x128x4000 .f32) (b : Fin 128) (s : Fin 4000)
    (c : Fin 5) :
    result x n (ix3 b s c) = ∑ e : Fin 10, Vote.ballot (fun k => x (ix4 e b s k)) (n (ix3 e b s)) c := by
  unfold result
  rw [transpose_apply _ _ _ (ix3 b s c) (ix3 c s b) fun a => match a with
    | ⟨0, _⟩ => rfl | ⟨1, _⟩ => rfl | ⟨2, _⟩ => rfl]
  unfold laneTally
  refine Finset.sum_congr rfl fun e _ => congrArg₂ (fun f v => Vote.ballot f v c) (funext fun k => ?_) ?_
  · exact transpose_apply _ _ _ (ix4 e k s b) (ix4 e b s k) fun a => match a with
      | ⟨0, _⟩ => rfl | ⟨1, _⟩ => rfl | ⟨2, _⟩ => rfl | ⟨3, _⟩ => rfl
  · exact transpose_apply _ _ _ (ix3 e s b) (ix3 e b s) fun a => match a with
      | ⟨0, _⟩ => rfl | ⟨1, _⟩ => rfl | ⟨2, _⟩ => rfl

/-- The kernel runs, leaves `result` of its arguments, and leaves the arguments alone. -/
theorem run (g : Dev nD → PrngReg) :
    θ_run defs (onTc (τ := τ) (main (F := Ideal))) ⟨m, fun _ => 0, g⟩ fun r => ∀ c : Dev nD,
      r.2.mem ((c.tc : Thread nD τ).loc main_v3)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  run_from (Gen.run_main m g)
  · have hend : ∀ W : Valuation τ sig (Elt Ideal),
        StableHlo.after [Gen.hostOps1].flatten W (Proc.devRef .tc main_v3)
          = transpose S128x4000x5 [2, 1, 0] (W (Proc.devRef .tc main_v2)) Gen.transposes_S5x4000x128_S128x4000x5_2_1_0 := by
      intro W
      rw [List.flatten_cons, List.flatten_nil, List.append_nil]
      after_results
    have hmid := (Pipeline.withArrays_arr spec0 Gen.launch0.win.arr_inj c (Gen.V0 m c)
      (fun w => (Gen.dats m 0 c).arrAt w cfg0.N) 2).trans (arr_eq m c)
    have h0 : Gen.V m c main_v0 = transpose S10x5x4000x128 [0, 3, 2, 1] (m ((c.tc : Thread nD τ).loc main_arg0))
        Gen.transposes_S10x128x4000x5_S10x5x4000x128_0_3_2_1 := by
      show StableHlo.after [Gen.hostOps0].flatten (fun b => m (c, b)) _ = _
      rw [List.flatten_cons, List.flatten_nil, List.append_nil]
      after_results
    have h1 : Gen.V m c main_v1 = transpose S10x4000x128 [0, 2, 1] (m ((c.tc : Thread nD τ).loc main_arg1))
        Gen.transposes_S10x128x4000_S10x4000x128_0_2_1 := by
      show StableHlo.after [Gen.hostOps0].flatten (fun b => m (c, b)) _ = _
      rw [List.flatten_cons, List.flatten_nil, List.append_nil]
      after_results
    rw [h0, h1] at hmid
    refine (hend _).trans ?_
    unfold result
    exact congrArg (fun A => transpose S128x4000x5 [2, 1, 0] A Gen.transposes_S5x4000x128_S128x4000x5_2_1_0) hmid
  · exact Gen.W_main_arg0 m (Gen.dats m) c
  · exact Gen.W_main_arg1 m (Gen.dats m) c

end Cert.KernelIdeal.Tally
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Ref
public import proofs.«01_k».proof.Proof.Run
public import Idealize.ShloMosaic.Adequacy
public import Idealize.ShloMosaic.Init

@[expose] public section

noncomputable section

namespace Cert.Proof

open Idealize.ShloMosaic Idealize.SL.Sem Cert.Kernel

/-- The reference's function of the arguments is the kernel's. -/
theorem results_eq (x : FVec Ideal Cert.KernelIdeal.S10x128x4000x5 .f32) (n : FVec Ideal Cert.KernelIdeal.S10x128x4000 .f32) :
    Cert.ReferenceIdeal.Tally.result x n = Cert.KernelIdeal.Tally.result x n := by
  funext j
  obtain ⟨b, s, c, rfl⟩ : ∃ (b : Fin 128) (s : Fin 4000) (c : Fin 5), j = ix3 b s c :=
    ⟨j 0, j 1, j 2, funext fun a => match a with
      | ⟨0, _⟩ => rfl
      | ⟨1, _⟩ => rfl
      | ⟨2, _⟩ => rfl⟩
  exact (Cert.ReferenceIdeal.Tally.result_apply x n b s c).trans (Cert.KernelIdeal.Tally.result_apply x n b s c).symm

/-- Over the extended reals the kernel and the reference leave the same tallies: both are the ten experts' ballots
    summed at each index. -/
theorem algebraic : Cert.algebraic_KernelIdeal_ReferenceIdeal := by
  pair_intro
  · run_from (Cert.KernelIdeal.Tally.run m g)
  · run_from (Cert.ReferenceIdeal.Tally.run m' g')
    exact results_eq _ _

/-- All the claims: the three programs' frames, the ideal kernel preserving the kernel, and the equality of results. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ,
    Cert.ReferenceIdeal.Tally.frame, trivial, algebraic⟩

end Cert.Proof

end
